-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x4096x1152 : Shape := ⟨3, ![8, 4096, 1152]⟩
abbrev S1769472 : Shape := ⟨1, ![1769472]⟩
abbrev S864 : Shape := ⟨1, ![864]⟩
abbrev S32768x1152 : Shape := ⟨2, ![32768, 1152]⟩
abbrev S13824x128 : Shape := ⟨2, ![13824, 128]⟩
abbrev S32768x1536 : Shape := ⟨2, ![32768, 1536]⟩
abbrev S2048x1152 : Shape := ⟨2, ![2048, 1152]⟩
abbrev S2048x1536 : Shape := ⟨2, ![2048, 1536]⟩
abbrev S1536x1152 : Shape := ⟨2, ![1536, 1152]⟩
abbrev S32x128 : Shape := ⟨2, ![32, 128]⟩
abbrev S1 : Shape := ⟨1, ![1]⟩
abbrev S16x128 : Shape := ⟨2, ![16, 128]⟩
abbrev S1536x128 : Shape := ⟨2, ![1536, 128]⟩

abbrev nBuf : Space → Nat
  | .hbm => 6
  | .vmem => 7
  | .smem => 1
  | _ => 0

abbrev bufTy : (tb : Table) → Fin (tcTables nBuf tb) → BufTy
  | .hbm, ⟨0, _⟩ => ⟨S8x4096x1152, .bf16⟩
  | .hbm, ⟨1, _⟩ => ⟨S1769472, .i8⟩
  | .hbm, ⟨2, _⟩ => ⟨S864, .f32⟩
  | .hbm, ⟨3, _⟩ => ⟨S32768x1152, .bf16⟩
  | .hbm, ⟨4, _⟩ => ⟨S13824x128, .i8⟩
  | .hbm, ⟨5, _⟩ => ⟨S32768x1536, .bf16⟩
  | .local _ .vmem, ⟨0, _⟩ => ⟨S2048x1152, .bf16⟩
  | .local _ .vmem, ⟨1, _⟩ => ⟨S2048x1152, .bf16⟩
  | .local _ .vmem, ⟨2, _⟩ => ⟨S13824x128, .i8⟩
  | .local _ .vmem, ⟨3, _⟩ => ⟨S2048x1536, .bf16⟩
  | .local _ .vmem, ⟨4, _⟩ => ⟨S2048x1536, .bf16⟩
  | .local _ .vmem, ⟨5, _⟩ => ⟨S13824x128, .f32⟩
  | .local _ .vmem, ⟨6, _⟩ => ⟨S1536x1152, .bf16⟩
  | .local _ .smem, ⟨0, _⟩ => ⟨S864, .f32⟩
  | _, _ => ⟨S8x4096x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_scratch0 : Ref sig .tc := ⟨.vmem, 5, rfl⟩
abbrev cc0_scratch1 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c432_i32 : BitVec 32 := 432#32
  let v9 : BitVec 32 := Scalar.addi c0_i32_6 c432_i32
  let c1_i32 : BitVec 32 := 1#32
  ⟨c0_i32_6, v9, c1_i32⟩
def k0_mult1 (k0_t1 : Fin k0_t1_loop.trips) : BitVec 32 :=
  let c0_i32_6 : BitVec 32 := 0#32
  let c1_i32 : BitVec 32 := 1#32
  let arg7 : BitVec 32 := Scf.iv c0_i32_6 c1_i32 k0_t1
  let c32_i32 : BitVec 32 := 32#32
  let v55 : BitVec 32 := Scalar.muli arg7 c32_i32
  v55
def k0_off1 (k0_t1 : Fin k0_t1_loop.trips) : Fin 2 → Nat :=
  let c0_i32_6 : BitVec 32 := 0#32
  let c1_i32 : BitVec 32 := 1#32
  let arg7 : BitVec 32 := Scf.iv c0_i32_6 c1_i32 k0_t1
  let c32_i32 : BitVec 32 := 32#32
  let v55 : BitVec 32 := Scalar.muli arg7 c32_i32
  let v56 : BitVec 32 := v55
  let v57 : Index := Scalar.indexCast v56
  let c0_28 : Index := 0#32
  ![v57.toNat, 0]
def k0_off2 (k0_t1 : Fin k0_t1_loop.trips) (c0_i32_29 : BitVec 32) : Fin 1 → Nat :=
  let c0_i32_6 : BitVec 32 := 0#32
  let c1_i32 : BitVec 32 := 1#32
  let arg7 : BitVec 32 := Scf.iv c0_i32_6 c1_i32 k0_t1
  let c2_i32 : BitVec 32 := 2#32
  let v61 : BitVec 32 := Scalar.muli arg7 c2_i32
  let v62 : BitVec 32 := Scalar.addi v61 c0_i32_29
  let v63 : Index := Scalar.indexCast v62
  ![v63.toNat]
def k0_mult2 (k0_t1 : Fin k0_t1_loop.trips) : BitVec 32 :=
  let c0_i32_6 : BitVec 32 := 0#32
  let c1_i32 : BitVec 32 := 1#32
  let arg7 : BitVec 32 := Scf.iv c0_i32_6 c1_i32 k0_t1
  let c32_i32_30 : BitVec 32 := 32#32
  let v68 : BitVec 32 := Scalar.muli arg7 c32_i32_30
  let c0_i32_31 : BitVec 32 := 0#32
  let v69 : BitVec 32 := Scalar.addi v68 c0_i32_31
  v69
def k0_off3 (k0_t1 : Fin k0_t1_loop.trips) (c0_i32_31 : BitVec 32) : Fin 2 → Nat :=
  let c0_i32_6 : BitVec 32 := 0#32
  let c1_i32 : BitVec 32 := 1#32
  let arg7 : BitVec 32 := Scf.iv c0_i32_6 c1_i32 k0_t1
  let c32_i32_30 : BitVec 32 := 32#32
  let v68 : BitVec 32 := Scalar.muli arg7 c32_i32_30
  let v69 : BitVec 32 := Scalar.addi v68 c0_i32_31
  let v70 : BitVec 32 := v69
  let v73 : Index := Scalar.indexCast v70
  let c0_32 : Index := 0#32
  ![v73.toNat, 0]
def k0_mult3 (k0_t1 : Fin k0_t1_loop.trips) : BitVec 32 :=
  let c0_i32_6 : BitVec 32 := 0#32
  let c1_i32 : BitVec 32 := 1#32
  let arg7 : BitVec 32 := Scf.iv c0_i32_6 c1_i32 k0_t1
  let c32_i32_35 : BitVec 32 := 32#32
  let v84 : BitVec 32 := Scalar.muli arg7 c32_i32_35
  let c16_i32 : BitVec 32 := 16#32
  let v85 : BitVec 32 := Scalar.addi v84 c16_i32
  v85
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S864 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S13824x128 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S8x4096x1152 : Shape := ⟨3, ![8, 4096, 1152]⟩
abbrev S1769472 : Shape := ⟨1, ![1769472]⟩
abbrev S864 : Shape := ⟨1, ![864]⟩
abbrev S864x2048 : Shape := ⟨2, ![864, 2048]⟩
abbrev S864x1 : Shape := ⟨2, ![864, 1]⟩
abbrev S1536x1152 : Shape := ⟨2, ![1536, 1152]⟩
abbrev S8x4096x1536 : Shape := ⟨3, ![8, 4096, 1536]⟩
abbrev S32768x1536 : Shape := ⟨2, ![32768, 1536]⟩

abbrev nBuf : Space → Nat
  | .hbm => 14
  | .vmem => 0
  | .smem => 0
  | _ => 0

abbrev bufTy : (tb : Table) → Fin (tcTables nBuf tb) → BufTy
  | .hbm, ⟨0, _⟩ => ⟨S8x4096x1152, .bf16⟩
  | .hbm, ⟨1, _⟩ => ⟨S1769472, .i8⟩
  | .hbm, ⟨2, _⟩ => ⟨S864, .f32⟩
  | .hbm, ⟨3, _⟩ => ⟨S864x2048, .i8⟩
  | .hbm, ⟨4, _⟩ => ⟨S864x2048, .i32⟩
  | .hbm, ⟨5, _⟩ => ⟨S864x2048, .bf16⟩
  | .hbm, ⟨6, _⟩ => ⟨S864, .bf16⟩
  | .hbm, ⟨7, _⟩ => ⟨S864x1, .bf16⟩
  | .hbm, ⟨8, _⟩ => ⟨S864x2048, .bf16⟩
  | .hbm, ⟨9, _⟩ => ⟨S864x2048, .bf16⟩
  | .hbm, ⟨10, _⟩ => ⟨S1536x1152, .bf16⟩
  | .hbm, ⟨11, _⟩ => ⟨S8x4096x1536, .f32⟩
  | .hbm, ⟨12, _⟩ => ⟨S8x4096x1536, .bf16⟩
  | .hbm, ⟨13, _⟩ => ⟨S32768x1536, .bf16⟩
  | _, _ => ⟨S8x4096x1152, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Proof.Loop.lean ====
/- What the kernel's counted loop leaves in its scratch. Row `r` of the packed codes (128 of them to a row) is sixteen
   rows to a scale; trip `k` reads 32 rows of codes and two scales and stores 32 rows of products. After the 432 trips
   the scratch holds, at row `r` and lane `l`, code `(r, l)` times scale `r / 16`, whatever it held before. -/
module

public import proofs.«01_k».proof.Proof.Gen.KernelIdeal.Frame
public import Idealize.ShloMosaic.Lib.Pipeline.Value
public import Idealize.ShloMosaic.Lib.Pipeline.ReadBack
public import Idealize.ShloMosaic.Lib.Tactic

@[expose] public section

noncomputable section

namespace Cert.KernelIdeal.Block

open Cert.KernelIdeal Cert.KernelIdeal.Gen
open Idealize.ShloMosaic Idealize.ShloMosaic.TcCoe Idealize.SL.Sem Idealize.ShloMosaic.Tactic

variable {F : FTy → Type} [FloatOps F]

/-- The place of the scale that a packed row is multiplied by: one scale to sixteen rows. -/
abbrev scaleIdx (j : S13824x128.Idx) : S864.Idx := fun a => match a with
  | ⟨0, _⟩ => ⟨(j 0).val / 16, by
    have h : (j 0).val < 13824 := (j 0).isLt
    show (j 0).val / 16 < 864
    omega⟩

/-- The products: at each packed place the code, converted to f32, times its scale, rounded to bf16. -/
def flat (x0 : Vec F S864 .f32) (x2 : Vec F S13824x128 .i8) : FVec F S13824x128 .f32 :=
  mulf (sitofp .f32 (x2 : IVec S13824x128 8))
    (extf .f32 (truncf .bf16 (fun j => x0 (scaleIdx j) : FVec F S13824x128 .f32) bitsLt_bf16_f32) bitsLt_bf16_f32)

/-- A product spelt element by element, of the code at `j'` and the scale at `s`, is `flat` at `j` when `j'` is `j` and
    `s` is the place of `j`'s scale. -/
theorem flat_of_idx (x0 : Vec F S864 .f32) (x2 : Vec F S13824x128 .i8) (j j' : S13824x128.Idx) (s : S864.Idx)
    (hj : j' = j) (hs : s = scaleIdx j) :
    FloatOps.mulf (FloatOps.sitofp .f32 (x2 j' : BitVec 8)) (FloatOps.extf .f32 bitsLt_bf16_f32 (FloatOps.truncf .bf16 bitsLt_bf16_f32 (x0 s : F .f32)))
      = flat x0 x2 j := by
  subst hj hs; rfl

section

variable (c : Dev nD) (i : grid0.Coords) (arg1 : Memref sig .tc .smem S864 .f32) (harg1 : arg1.IsWhole)
  (arg2 : Memref sig .tc .vmem S2048x1152 .bf16) (harg2 : arg2.IsWhole) (arg3 : Memref sig .tc .vmem S13824x128 .i8)
  (harg3 : arg3.IsWhole) (arg4 : Memref sig .tc .vmem S2048x1536 .bf16) (harg4 : arg4.IsWhole)
  (arg5 : Memref sig .tc .vmem S13824x128 .f32) (harg5 : arg5.IsWhole) (arg6 : Memref sig .tc .vmem S1536x1152 .bf16)
  (harg6 : arg6.IsWhole)

/-- Each of the two pieces that trip `k` stores is a block of `flat`. -/
theorem trip_pieces (𝒱 : Variants) (bd : Option 𝒱.V) (h : k0_cond1 i = 1#1) (x0 : Vec F S864 .f32) (x2 : Vec F S13824x128 .i8) (k : Fin k0_t1_loop.trips) :
    View.PiecesOf (flat x0 x2) (tripL_k0_t1 (F := F) 𝒱 c bd i arg1 harg1 arg2 harg2 arg3 harg3 arg4 harg4 arg5 harg5 arg6 harg6 h (harg1.unread x0) (harg3.unread x2) k) := by
  have h1 := k0_off1_eq k
  have h20 := k0_off2_eq k 0
  have h21 := k0_off2_eq k 1
  have h30 := k0_off3_eq k 0
  have h31 := k0_off3_eq k 1
  unfold tripL_k0_t1 trip_k0_t1
  dsimp only
  sl_unfold_words
  simp only [View.readAt_eq_ld, harg1.read_unread, harg3.read_unread]
  refine ⟨fun x => ?_, fun x => ?_, trivial⟩
  · have hx : (x 0).val < 16 := (x 0).isLt
    unfold k0_pay8 k0_pay6
    simp only [shapeCast_self]
    refine flat_of_idx x0 x2 _ _ _ (Shape.idx_ext₂ ?_ ?_) (funext fun a => Fin.ext ?_)
    · show k0_off1 k 0 + 1 * (16 + (x 0).val) = k0_off3 k (BitVec.ofNat 32 (16 * (1 : Fin 2).val)) 0 + 1 * (x 0).val
      rw [h1, h31]; simp; omega
    · show k0_off1 k 1 + 1 * (0 + (x 1).val) = k0_off3 k (BitVec.ofNat 32 (16 * (1 : Fin 2).val)) 1 + 1 * (x 1).val
      rw [h1, h31]; simp
    · obtain rfl : a = 0 := Subsingleton.elim _ _
      show k0_off2 k (BitVec.ofNat 32 (1 : Fin 2).val) 0 + 1 * 0 = (k0_off3 k (BitVec.ofNat 32 (16 * (1 : Fin 2).val)) 0 + 1 * (x 0).val) / 16
      rw [h21, h31]; simp; omega
  · have hx : (x 0).val < 16 := (x 0).isLt
    unfold k0_pay7 k0_pay6
    simp only [shapeCast_self]
    refine flat_of_idx x0 x2 _ _ _ (Shape.idx_ext₂ ?_ ?_) (funext fun a => Fin.ext ?_)
    · show k0_off1 k 0 + 1 * (0 + (x 0).val) = k0_off3 k (BitVec.ofNat 32 (16 * (0 : Fin 2).val)) 0 + 1 * (x 0).val
      rw [h1, h30]; simp
    · show k0_off1 k 1 + 1 * (0 + (x 1).val) = k0_off3 k (BitVec.ofNat 32 (16 * (0 : Fin 2).val)) 1 + 1 * (x 1).val
      rw [h1, h30]; simp
    · obtain rfl : a = 0 := Subsingleton.elim _ _
      show k0_off2 k (BitVec.ofNat 32 (0 : Fin 2).val) 0 + 1 * 0 = (k0_off3 k (BitVec.ofNat 32 (16 * (0 : Fin 2).val)) 0 + 1 * (x 0).val) / 16
      rw [h20, h30]; simp; omega

/-- The two pieces that trip `k` stores hold every place of rows `32k` to `32k + 31`. -/
theorem trip_cover (𝒱 : Variants) (bd : Option 𝒱.V) (h : k0_cond1 i = 1#1) (x0 : Vec F S864 .f32) (x2 : Vec F S13824x128 .i8) (k : Fin k0_t1_loop.trips)
    (y : S13824x128.Idx) (hy : (y 0).val / 32 = k.val) :
    ∃ p ∈ tripL_k0_t1 (F := F) 𝒱 c bd i arg1 harg1 arg2 harg2 arg3 harg3 arg4 harg4 arg5 harg5 arg6 harg6 h (harg1.unread x0) (harg3.unread x2) k,
      y ∈ p.1.set := by
  have h30 := k0_off3_eq k 0
  have h31 := k0_off3_eq k 1
  have hl : (y 1).val < 128 := (y 1).isLt
  unfold tripL_k0_t1 trip_k0_t1
  dsimp only
  by_cases hr : (y 0).val % 32 < 16
  · refine ⟨_, List.mem_cons_of_mem _ (List.mem_cons_self ..), ?_⟩
    rw [Rect.mem_set_unit]
    intro a
    match a with
    | ⟨0, _⟩ =>
      show k0_off3 k (BitVec.ofNat 32 (16 * (0 : Fin 2).val)) 0 ≤ (y 0).val ∧ (y 0).val < k0_off3 k (BitVec.ofNat 32 (16 * (0 : Fin 2).val)) 0 + 16
      rw [h30]; simp; omega
    | ⟨1, _⟩ =>
      show k0_off3 k (BitVec.ofNat 32 (16 * (0 : Fin 2).val)) 1 ≤ (y 1).val ∧ (y 1).val < k0_off3 k (BitVec.ofNat 32 (16 * (0 : Fin 2).val)) 1 + 128
      rw [h30]; simp; omega
  · refine ⟨_, List.mem_cons_self .., ?_⟩
    rw [Rect.mem_set_unit]
    intro a
    match a with
    | ⟨0, _⟩ =>
      show k0_off3 k (BitVec.ofNat 32 (16 * (1 : Fin 2).val)) 0 ≤ (y 0).val ∧ (y 0).val < k0_off3 k (BitVec.ofNat 32 (16 * (1 : Fin 2).val)) 0 + 16
      rw [h31]; simp; omega
    | ⟨1, _⟩ =>
      show k0_off3 k (BitVec.ofNat 32 (16 * (1 : Fin 2).val)) 1 ≤ (y 1).val ∧ (y 1).val < k0_off3 k (BitVec.ofNat 32 (16 * (1 : Fin 2).val)) 1 + 128
      rw [h31]; simp; omega

/-- Before trip `n`, every piece stored so far is a block of `flat`, and the pieces hold every place of the first `32n`
    rows: by induction on `n`. -/
theorem loop_pieces (𝒱 : Variants) (bd : Option 𝒱.V) (h : k0_cond1 i = 1#1) (x0 : Vec F S864 .f32) (x2 : Vec F S13824x128 .i8) :
    ∀ n : ℕ, n ≤ k0_t1_loop.trips →
      (∀ p ∈ pb_k0_t1 (F := F) 𝒱 c bd i arg1 harg1 arg2 harg2 arg3 harg3 arg4 harg4 arg5 harg5 arg6 harg6 h (harg1.unread x0) (harg3.unread x2) n,
        ∀ x : p.1.shape.Idx, p.2 x = flat x0 x2 (p.1.emb x))
      ∧ ∀ y : S13824x128.Idx, (y 0).val / 32 < n →
        ∃ p ∈ pb_k0_t1 (F := F) 𝒱 c bd i arg1 harg1 arg2 harg2 arg3 harg3 arg4 harg4 arg5 harg5 arg6 harg6 h (harg1.unread x0) (harg3.unread x2) n,
          y ∈ p.1.set
  | 0, _ => ⟨fun p hp => absurd hp (by rw [pb_k0_t1.eq_1]; exact List.not_mem_nil), fun y hy => absurd hy (Nat.not_lt_zero _)⟩
  | n + 1, hn => by
    obtain ⟨ih1, ih2⟩ := loop_pieces 𝒱 bd h x0 x2 n (by omega)
    have hs := pb_k0_t1_succ (F := F) 𝒱 c bd i arg1 harg1 arg2 harg2 arg3 harg3 arg4 harg4 arg5 harg5 arg6 harg6 h (harg1.unread x0) (harg3.unread x2) ⟨n, hn⟩
    dsimp only at hs
    rw [hs]
    refine ⟨fun p hp => ?_, fun y hy => ?_⟩
    · rcases List.mem_append.mp hp with hp | hp
      · exact (trip_pieces c i arg1 harg1 arg2 harg2 arg3 harg3 arg4 harg4 arg5 harg5 arg6 harg6 𝒱 bd h x0 x2 ⟨n, hn⟩).mem p hp
      · exact ih1 p hp
    · by_cases hk : (y 0).val / 32 = n
      · obtain ⟨p, hp, hy⟩ := trip_cover c i arg1 harg1 arg2 harg2 arg3 harg3 arg4 harg4 arg5 harg5 arg6 harg6 𝒱 bd h x0 x2 ⟨n, hn⟩ y hk
        exact ⟨p, List.mem_append_left _ hp, hy⟩
      · obtain ⟨p, hp, hy⟩ := ih2 y (by omega)
        exact ⟨p, List.mem_append_right _ hp, hy⟩

/-- The loop makes 432 trips. -/
theorem trips_eq : k0_t1_loop.trips = 432 := by decide +kernel

/-- After the loop, a load of any box of the scratch reads `flat` at the box's places. -/
theorem loop_read (𝒱 : Variants) (bd : Option 𝒱.V) (h : k0_cond1 i = 1#1) (x0 : Vec F S864 .f32) (x2 : Vec F S13824x128 .i8) (B : LoadRect S13824x128) :
    arg5.view.readCov (pb_k0_t1 (F := F) 𝒱 c bd i arg1 harg1 arg2 harg2 arg3 harg3 arg4 harg4 arg5 harg5 arg6 harg6 h (harg1.unread x0) (harg3.unread x2) (Scf.trips k0_t1_loop.lb k0_t1_loop.ub k0_t1_loop.st)) B
      = fun j => flat x0 x2 (B.idx j) := by
  rw [View.readCov_eq_canon']
  funext j
  obtain ⟨h1, h2⟩ := loop_pieces c i arg1 harg1 arg2 harg2 arg3 harg3 arg4 harg4 arg5 harg5 arg6 harg6 𝒱 bd h x0 x2 _ le_rfl
  refine View.canon_apply_of_pieces _ _ h1 _ (h2 _ ?_)
  have hj : (B.idx j 0).val < 13824 := (B.idx j 0).isLt
  rw [trips_eq]; omega

end

end Cert.KernelIdeal.Block

end
-- ==== Proof.Block.lean ====
/- What one grid point computes. The first point fills the weight scratch from the codes and the scales and multiplies
   its block of rows by it; every later point multiplies its own block by the weight it finds there and leaves it as it was. -/
module

public import proofs.«01_k».proof.Proof.Loop

@[expose] public section

noncomputable section

namespace Cert.KernelIdeal.Block

open Cert.KernelIdeal Cert.KernelIdeal.Gen
open Idealize.ShloMosaic Idealize.ShloMosaic.TcCoe Idealize.SL.Sem Idealize.ShloMosaic.Tactic

variable {F : FTy → Type} [FloatOps F]

/-- The offsets of a whole two-axis load or store are zero on both axes. -/
theorem hz : (![0, 0] : Fin 2 → Nat) = fun _ => 0 := funext fun a => by fin_cases a <;> rfl

/-- The packed place of the weight's element `(n, k)`: a weight row is nine packed rows. -/
abbrev packIdx (j : S1536x1152.Idx) : S13824x128.Idx := fun a => match a with
  | ⟨0, _⟩ => ⟨9 * (j 0).val + (j 1).val / 128, by
    have h : (j 0).val < 1536 := (j 0).isLt
    have h' : (j 1).val < 1152 := (j 1).isLt
    show _ < 13824
    omega⟩
  | ⟨1, _⟩ => ⟨(j 1).val % 128, Nat.mod_lt _ (by decide)⟩

/-- The weight that the codes and the scales stand for, in bf16. -/
def weight (x0 : Vec F S864 .f32) (x2 : Vec F S13824x128 .i8) : FVec F S1536x1152 .bf16 :=
  truncf .bf16 (fun j => flat x0 x2 (packIdx j)) bitsLt_bf16_f32

/-- One of the nine column slabs: the products at every ninth packed row from `q` on, rounded to bf16, are columns
    `128q` to `128q + 127` of the weight. -/
theorem slab (x0 : Vec F S864 .f32) (x2 : Vec F S13824x128 .i8) (q : ℕ) (hq : q < 9) (col : ℕ) (hcol : col = 128 * q)
    (inb : ∀ a, S1536x128.size a = 0 ∨ (![q, 0] : Fin 2 → ℕ) a + (![9, 1] : Fin 2 → ℕ) a * (S1536x128.size a - 1) < S13824x128.size a)
    (inb' : ∀ a, (![0, col] : Fin 2 → ℕ) a + S1536x128.size a ≤ S1536x1152.size a) (x : S1536x128.Idx) :
    truncf .bf16 (fun j => flat x0 x2 (({ off := ![q, 0], size := S1536x128.size, stride := ![9, 1], inb := inb } : LoadRect S13824x128).idx j) : FVec F S1536x128 .f32)
        bitsLt_bf16_f32 x
      = weight x0 x2 ((Rect.unit (s := S1536x1152) ![0, col] S1536x128.size inb').emb x) := by
  subst hcol
  have hl : (x 1).val < 128 := (x 1).isLt
  refine congrArg (fun j => FloatOps.truncf .bf16 bitsLt_bf16_f32 (flat x0 x2 j)) (Shape.idx_ext₂ ?_ ?_)
  · show q + 9 * (x 0).val = 9 * (0 + 1 * (x 0).val) + (128 * q + 1 * (x 1).val) / 128
    omega
  · show 0 + 1 * (x 1).val = (128 * q + 1 * (x 1).val) % 128
    omega

section

variable (c : Dev nD) (i : grid0.Coords) (arg1 : Memref sig .tc .smem S864 .f32) (harg1 : arg1.IsWhole)
  (arg2 : Memref sig .tc .vmem S2048x1152 .bf16) (harg2 : arg2.IsWhole) (arg3 : Memref sig .tc .vmem S13824x128 .i8)
  (harg3 : arg3.IsWhole) (arg4 : Memref sig .tc .vmem S2048x1536 .bf16) (harg4 : arg4.IsWhole)
  (arg5 : Memref sig .tc .vmem S13824x128 .f32) (harg5 : arg5.IsWhole) (arg6 : Memref sig .tc .vmem S1536x1152 .bf16)
  (harg6 : arg6.IsWhole)

/-- The nine slabs that the first point stores leave the weight in the weight scratch. -/
theorem canon_scratch (hc : cond0_0 i) (x0 : Vec F S864 .f32) (x1 : Vec F S2048x1152 .bf16) (x2 : Vec F S13824x128 .i8) :
    View.canon (kernelRun0_A c i arg1 harg1 arg2 harg2 arg3 harg3 arg4 harg4 arg5 harg5 arg6 harg6 hc x0 x1 x2).2.1 = weight x0 x2 := by
  have hcov := scover0_A_1 c i arg1 harg1 arg2 harg2 arg3 harg3 arg4 harg4 arg5 harg5 arg6 harg6 hc x0 x1 x2
  have hl := loop_read c i arg1 harg1 arg2 harg2 arg3 harg3 arg4 harg4 arg5 harg5 arg6 harg6 Variants.none none hc x0 x2
  funext y
  refine View.canon_apply_of_pieces _ _ ?_ y (hcov y)
  clear hcov
  unfold kernelRun0_A
  dsimp only
  apply View.PiecesOf.mem
  sl_unfold_words
  simp only [hl]
  refine ⟨fun x => ?_, fun x => ?_, fun x => ?_, fun x => ?_, fun x => ?_, fun x => ?_, fun x => ?_, fun x => ?_, fun x => ?_, trivial⟩
  all_goals
    simp only [k0_pay1, k0_pay2, k0_pay3, k0_pay4, k0_pay9, k0_pay10, k0_pay11, k0_pay12, k0_pay13, k0_pay14, shapeCast_self]
    exact slab x0 x2 _ (by decide) _ (by decide) _ _ x

/-- At the first point the weight scratch ends holding the weight. -/
theorem sout_A (hc : cond0_0 i) (x0 : Vec F S864 .f32) (x1 : Vec F S2048x1152 .bf16) (x2 : Vec F S13824x128 .i8) :
    sout0_A_1 c i arg1 harg1 arg2 harg2 arg3 harg3 arg4 harg4 arg5 harg5 arg6 harg6 hc x0 x1 x2 = weight x0 x2 := by
  unfold sout0_A_1
  rw [View.read_writes_eq_canon _ _ _ (scover0_A_1 c i arg1 harg1 arg2 harg2 arg3 harg3 arg4 harg4 arg5 harg5 arg6 harg6 hc x0 x1 x2)]
  exact canon_scratch c i arg1 harg1 arg2 harg2 arg3 harg3 arg4 harg4 arg5 harg5 arg6 harg6 hc x0 x1 x2

/-- At the first point the output block ends holding the product of the point's rows by the weight. -/
theorem out_A (hc : cond0_0 i) (x0 : Vec F S864 .f32) (x1 : Vec F S2048x1152 .bf16) (x2 : Vec F S13824x128 .i8) :
    out0_A_3 c i arg1 harg1 arg2 harg2 arg3 harg3 arg4 harg4 arg5 harg5 arg6 harg6 hc x0 x1 x2 = k0_pay5 x1 (weight x0 x2) := by
  have hs := canon_scratch c i arg1 harg1 arg2 harg2 arg3 harg3 arg4 harg4 arg5 harg5 arg6 harg6 hc x0 x1 x2
  unfold out0_A_3
  rw [View.read_writes_eq_canon _ _ _ (cover0_A_3 c i arg1 harg1 arg2 harg2 arg3 harg3 arg4 harg4 arg5 harg5 arg6 harg6 hc x0 x1 x2)]
  unfold kernelRun0_A at hs ⊢
  dsimp only at hs ⊢
  rw [View.canon_unit_zero hz]
  simp only [View.readAt_eq_ld, harg2.read_unread, View.ld_unit_zero (S := S2048x1152) hz]
  unfold kernelRun0_A.sl.v5
  rw [View.readCov_eq_canon', hs]
  exact congrArg (k0_pay5 x1) (View.ld_unit_zero (Val := Elt F) (e := .bf16) (S := S1536x1152) hz inb_S1536x1152_S1536x1152_0_0 (weight x0 x2))

/-- At a later point the output block ends holding the product of the point's rows by what the weight scratch held. -/
theorem out_B (hc : ¬cond0_0 i) (x0 : Vec F S864 .f32) (x1 : Vec F S2048x1152 .bf16) (x2 : Vec F S13824x128 .i8)
    (w : Vec F S1536x1152 .bf16) :
    out0_B_3 c i arg1 harg1 arg2 harg2 arg3 harg3 arg4 harg4 arg5 harg5 arg6 harg6 hc x0 x1 x2 w = k0_pay5 x1 w := by
  unfold out0_B_3
  rw [View.read_writes_eq_canon _ _ _ (cover0_B_3 c i arg1 harg1 arg2 harg2 arg3 harg3 arg4 harg4 arg5 harg5 arg6 harg6 hc x0 x1 x2 w)]
  unfold kernelRun0_B
  dsimp only
  rw [View.canon_unit_zero hz]
  simp only [View.readAt_eq_ld, harg2.read_unread, harg6.read_unread, View.ld_unit_zero (S := S2048x1152) hz, View.ld_unit_zero (S := S1536x1152) hz]

end

end Cert.KernelIdeal.Block

end
-- ==== Proof.Array.lean ====
/- What the result array holds. Every point finds the weight that the first point left in the weight scratch, so the
   block of rows that point `t` writes is the product of rows `2048t` to `2048t + 2047` of the activations by it. -/
module

public import proofs.«01_k».proof.Proof.Block
public import proofs.«01_k».proof.Proof.Gen.KernelIdeal.Value

@[expose] public section

noncomputable section

namespace Cert.KernelIdeal.Block

open Cert.KernelIdeal Cert.KernelIdeal.Gen Cert.KernelIdeal.Value
open Idealize.ShloMosaic Idealize.ShloMosaic.TcCoe Idealize.SL.Sem Idealize.ShloMosaic.Tactic Idealize.ShloMosaic.StableHlo

variable {F : FTy → Type} [FloatOps F]
variable (m : (ℓ : Loc nD τ sig) → Buf (Elt F) ℓ) (c : Dev nD)

/-- The grid's first point. -/
abbrev first : Fin cfg0.N := ⟨0, lt_of_lt_of_eq (by decide) N_0.symm⟩

/-- The weight that the first point leaves in the weight scratch. -/
abbrev held : Vec F S1536x1152 .bf16 := weight (iblk m c 0 first) (iblk m c 2 first)

/-- After every point the weight scratch holds that weight, and the output block is the product of the point's rows by it. -/
theorem outs_eq : ∀ (n : ℕ) (hn : n < cfg0.N), outsAt0 m c n hn = (k0_pay5 (iblk m c 1 ⟨n, hn⟩) (held m c), held m c)
  | 0, hn => by
    rw [outsAt0_A m c ⟨0, hn⟩ rfl, out_A, sout_A]
  | n + 1, hn => by
    have hN : cfg0.N = 16 := N_0
    have ih := outs_eq n (Nat.lt_of_succ_lt hn)
    rw [outsAt0_B m c ⟨n + 1, hn⟩ (by show ¬(n + 1) % 16 = 0; omega)]
    have e : (outsAt0 m c (n + 1 - 1) (Nat.lt_of_succ_lt hn)).2 = held m c := congrArg Prod.snd ih
    rw [out_B]
    exact congrArg₂ Prod.mk (congrArg (k0_pay5 _) e) e

/-- The scales reach every point whole. -/
theorem scales_block (t : Fin cfg0.N) (j : S864.Idx) :
    (iblk m c 0 t : Vec F S864 .f32) j = m ((c : Thread nD τ).loc main_arg2) j := by
  have hi : ∀ t : Fin cfg0.N, win0_0.index t 0 = 0 := (by decide +kernel : ∀ t : Fin grid0.N, _)
  unfold iblk
  rw [View.read_apply]
  show V m c main_arg2 _ = m (c.tc.loc main_arg2) _
  rw [V_main_arg2]
  congr 1
  funext a
  apply Fin.ext
  match a with
  | ⟨0, _⟩ => show win0_0.index t 0 * 864 + 1 * (j 0).val = (j 0).val; rw [hi t]; omega

/-- The rows of activations that the region reads are the host's reshape of them. -/
theorem rows_eq : V m c main_v0
    = shapeCast S32768x1152 (m ((c : Thread nD τ).loc main_arg0)) shapeCasts_S8x4096x1152_S32768x1152 := by
  entry_read
  rfl

/-- The packed codes that the region reads are the host's reshape of them. -/
theorem codes_eq : V m c main_v1
    = shapeCast S13824x128 (m ((c : Thread nD τ).loc main_arg1)) shapeCasts_S1769472_S13824x128 := by
  entry_read
  rfl

/-- The flat place of the packed place `j`: 128 codes to a packed row. -/
abbrev codeIdx (j : S13824x128.Idx) : S1769472.Idx := fun a => match a with
  | ⟨0, _⟩ => ⟨(j 0).val * 128 + (j 1).val, by
    have h : (j 0).val < 13824 := (j 0).isLt
    have h' : (j 1).val < 128 := (j 1).isLt
    show _ < 1769472
    omega⟩

/-- The packed codes reach every point whole. -/
theorem codes_block (t : Fin cfg0.N) (j : S13824x128.Idx) :
    (iblk m c 2 t : Vec F S13824x128 .i8) j = m ((c : Thread nD τ).loc main_arg1) (codeIdx j) := by
  have hi : ∀ t : Fin cfg0.N, win0_2.index t 0 = 0 ∧ win0_2.index t 1 = 0 := (by decide +kernel : ∀ t : Fin grid0.N, _)
  unfold iblk
  rw [View.read_apply]
  show V m c main_v1 _ = m (c.tc.loc main_arg1) _
  rw [codes_eq]
  apply shapeCast_apply
  rw [Shape.rowMajor_val_two]
  refine (Shape.rowMajor_val_one (codeIdx j)).trans ?_
  show (j 0).val * 128 + (j 1).val
    = (win0_2.index t 0 * 13824 + 1 * (j 0).val) * 128 + (win0_2.index t 1 * 128 + 1 * (j 1).val)
  rw [(hi t).1, (hi t).2]
  omega

/-- The place in the activations of row `r` of point `t`'s block, at feature `k`: the rows of the batches follow one another. -/
abbrev actIdx (t : Fin cfg0.N) (j : S2048x1152.Idx) : S8x4096x1152.Idx := fun a => match a with
  | ⟨0, _⟩ => ⟨(2048 * t.val + (j 0).val) / 4096, by
    have h : (j 0).val < 2048 := (j 0).isLt
    have h' : t.val < 16 := lt_of_lt_of_eq t.isLt N_0
    show _ < 8
    omega⟩
  | ⟨1, _⟩ => ⟨(2048 * t.val + (j 0).val) % 4096, Nat.mod_lt _ (by decide)⟩
  | ⟨2, _⟩ => ⟨(j 1).val, (j 1).isLt⟩

/-- The block of activations that reaches point `t`. -/
theorem rows_block (t : Fin cfg0.N) (j : S2048x1152.Idx) :
    (iblk m c 1 t : Vec F S2048x1152 .bf16) j = m ((c : Thread nD τ).loc main_arg0) (actIdx t j) := by
  have hi : ∀ t : Fin cfg0.N, win0_1.index t 0 = t.val ∧ win0_1.index t 1 = 0 := (by decide +kernel : ∀ t : Fin grid0.N, _)
  unfold iblk
  rw [View.read_apply]
  show V m c main_v0 _ = m (c.tc.loc main_arg0) _
  rw [rows_eq]
  apply shapeCast_apply
  rw [Shape.rowMajor_val_two]
  refine (Shape.rowMajor_val_three (actIdx t j)).trans ?_
  show ((2048 * t.val + (j 0).val) / 4096 * 4096 + (2048 * t.val + (j 0).val) % 4096) * 1152 + (j 1).val
    = (win0_1.index t 0 * 2048 + 1 * (j 0).val) * 1152 + (win0_1.index t 1 * 1152 + 1 * (j 1).val)
  rw [(hi t).1, (hi t).2]
  omega

/-- The grid point that writes the result's element `i`: 2048 rows to a point. -/
abbrev pointOf (i : S32768x1536.Idx) : Fin cfg0.N := ⟨(i 0).val / 2048, by
  have h : (i 0).val < 32768 := (i 0).isLt
  have hN : cfg0.N = 16 := N_0
  omega⟩

/-- The result's element `i` is its place in the product that its point writes. -/
theorem G3_eq (i : S32768x1536.Idx) :
    G3 m c i = k0_pay5 (iblk m c 1 (pointOf i)) (held m c) (loc3Of i) := by
  have h0 : (i 0).val < 32768 := (i 0).isLt
  have h1 : (i 1).val < 1536 := (i 1).isLt
  have hN : cfg0.N = 16 := N_0
  have hp : pt3Of i = (i 0).val / 2048 := by
    show 1 * ((i 0).val / 2048 - 0) + 1 * ((i 1).val / 1536 - 0) = _
    omega
  have hlt : pt3Of i < cfg0.N := by rw [hp]; omega
  unfold G3
  rw [dif_pos hlt, ← outsAt0_sweep m c _ hlt, outs_eq m c _ hlt]
  have e : (⟨pt3Of i, hlt⟩ : Fin cfg0.N) = pointOf i := Fin.ext hp
  rw [e]

end Cert.KernelIdeal.Block

end
-- ==== Proof.Product.lean ====
/- The product that both programs compute, over the extended reals: activations times the weight that the codes and the
   scales stand for. The weight has 1536 rows of 1152 elements, flat in row-major order, and one scale to 2048 elements. -/
module

public import Idealize.ShloMosaic.PureOps.Ideal
public import Idealize.ShloMosaic.Lib.Pointwise

@[expose] public section

noncomputable section

namespace Cert.Product

open Idealize.ShloMosaic

/-- The place in the activations of result row `r` at feature `k`: batch `r / 4096`, position `r % 4096`. -/
abbrev actAt (r : Fin 32768) (k : Fin 1152) : (⟨3, ![8, 4096, 1152]⟩ : Shape).Idx :=
  ix3 ⟨r.val / 4096, by omega⟩ ⟨r.val % 4096, by omega⟩ k

/-- The flat place of the weight's element `(n, k)`. -/
abbrev codeAt (n : Fin 1536) (k : Fin 1152) : (⟨1, ![1769472]⟩ : Shape).Idx := ix1 ⟨1152 * n.val + k.val, by omega⟩

/-- The place of the scale of the weight's element `(n, k)`. -/
abbrev scaleAt (n : Fin 1536) (k : Fin 1152) : (⟨1, ![864]⟩ : Shape).Idx := ix1 ⟨(1152 * n.val + k.val) / 2048, by omega⟩

/-- The weight's element `(n, k)`: its code, a signed integer, times its scale. -/
def weightAt (codes : (⟨1, ![1769472]⟩ : Shape).Idx → BitVec 8) (scales : (⟨1, ![864]⟩ : Shape).Idx → EReal)
    (n : Fin 1536) (k : Fin 1152) : EReal :=
  (((codes (codeAt n k)).toInt : ℝ) : EReal) * scales (scaleAt n k)

/-- The result's element `(r, n)`: the sum over the features of activation times weight. -/
def product (x : (⟨3, ![8, 4096, 1152]⟩ : Shape).Idx → EReal) (codes : (⟨1, ![1769472]⟩ : Shape).Idx → BitVec 8)
    (scales : (⟨1, ![864]⟩ : Shape).Idx → EReal) : (⟨2, ![32768, 1536]⟩ : Shape).Idx → EReal :=
  fun i => ∑ k : Fin 1152, x (actAt (i 0) k) * weightAt codes scales (i 1) k

end Cert.Product

end
-- ==== Proof.Kernel.lean ====
/- The kernel's result over the extended reals is the product: its packed places and its blocks of rows, read back to
   the places of the weight and of the activations. -/
module

public import proofs.«01_k».proof.Proof.Array
public import proofs.«01_k».proof.Proof.Product
public import Idealize.ShloMosaic.PureOps.Ideal.Laws

@[expose] public section

noncomputable section

namespace Cert.KernelIdeal.Block

open Cert.KernelIdeal Cert.KernelIdeal.Gen Cert.KernelIdeal.Value Cert.Product
open Idealize.ShloMosaic Idealize.ShloMosaic.TcCoe Idealize.SL.Sem Idealize.ShloMosaic.Tactic

/-- What a point stores, read at row `r` and column `n`: the sum over the features of the two operands' products. -/
theorem pay_apply (x : Vec Ideal S2048x1152 .bf16) (w : Vec Ideal S1536x1152 .bf16) (j : S2048x1536.Idx) :
    (k0_pay5 (F := Ideal) x w j : EReal) = ∑ k : Fin 1152, (x (ix2 (j 0) k) * w (ix2 (j 1) k) : EReal) := by
  unfold k0_pay5
  show Ideal.matmul dot_S2048x1152_S1536x1152_S2048x1536_1_1_0_0_n_n (shapeCast S2048x1152 x _) w (fun _ => Ideal.ofBits .f32 0x00000000#32) j = _
  rw [shapeCast_self, Ideal.matmul_apply₁_of dot_S2048x1152_S1536x1152_S2048x1536_1_1_0_0_n_n (a := 1) rfl (K := 1152) rfl x w _ j
    (fun k => ix2 (j 0) k) (fun k => ix2 (j 1) k) ?_ ?_, Ideal.ofBits_zero_f32, zero_add]
  · intro k; funext a; match a with | ⟨0, _⟩ => rfl | ⟨1, _⟩ => rfl
  · intro k; funext a; match a with | ⟨0, _⟩ => rfl | ⟨1, _⟩ => rfl

variable (m : (ℓ : Loc nD τ sig) → Buf (Elt Ideal) ℓ) (c : Dev nD)

/-- The weight that the scratch holds is the weight of the product: element `(n, k)` is packed at row `9n + k / 128`,
    lane `k % 128`, which is flat place `1152n + k`. -/
theorem held_apply (n : Fin 1536) (k : Fin 1152) :
    (held m c (ix2 n k) : EReal)
      = weightAt (m ((c : Thread nD τ).loc main_arg1)) (m ((c : Thread nD τ).loc main_arg2)) n k := by
  show ((((iblk m c 2 first : Vec Ideal S13824x128 .i8) (packIdx (ix2 n k)) : BitVec 8).toInt : ℝ) : EReal)
    * ((iblk m c 0 first : Vec Ideal S864 .f32) (scaleIdx (packIdx (ix2 n k))) : EReal) = _
  rw [codes_block, scales_block]
  have e1 : codeIdx (packIdx (ix2 n k)) = codeAt n k := by
    funext a; apply Fin.ext
    match a with
    | ⟨0, _⟩ =>
      show (9 * n.val + k.val / 128) * 128 + k.val % 128 = 1152 * n.val + k.val
      omega
  have e2 : scaleIdx (packIdx (ix2 n k)) = scaleAt n k := by
    funext a; apply Fin.ext
    match a with
    | ⟨0, _⟩ =>
      show (9 * n.val + k.val / 128) / 16 = (1152 * n.val + k.val) / 2048
      omega
  rw [e1, e2]
  rfl

/-- The array that the kernel's runs leave is the product of the arguments. -/
theorem kernel_eq : G3 m c
    = product (m ((c : Thread nD τ).loc main_arg0)) (m ((c : Thread nD τ).loc main_arg1)) (m ((c : Thread nD τ).loc main_arg2)) := by
  funext i
  have h0 : (i 0).val < 32768 := (i 0).isLt
  have h1 : (i 1).val < 1536 := (i 1).isLt
  rw [G3_eq]
  refine (pay_apply _ _ _).trans (Finset.sum_congr rfl fun k _ => ?_)
  have en : loc3Of i 1 = i 1 := Fin.ext (by show (i 1).val % 1536 = (i 1).val; omega)
  have e : actIdx (pointOf i) (ix2 (loc3Of i 0) k) = actAt (i 0) k := by
    funext a; apply Fin.ext
    match a with
    | ⟨0, _⟩ =>
      show (2048 * ((i 0).val / 2048) + (i 0).val % 2048) / 4096 = (i 0).val / 4096
      omega
    | ⟨1, _⟩ =>
      show (2048 * ((i 0).val / 2048) + (i 0).val % 2048) % 4096 = (i 0).val % 4096
      omega
    | ⟨2, _⟩ => rfl
  exact congrArg₂ (· * · : EReal → EReal → EReal) ((rows_block m c (pointOf i) (ix2 (loc3Of i 0) k)).trans (congrArg _ e))
    ((congrArg (fun n : Fin 1536 => held m c (ix2 n k)) en).trans (held_apply m c (i 1) k))

end Cert.KernelIdeal.Block

end
-- ==== Proof.Reference.lean ====
/- The reference's result over the extended reals is the product: its reshapes and broadcasts, read at an index. -/
module

public import proofs.«01_k».proof.Proof.Gen.ReferenceIdeal.Run
public import proofs.«01_k».proof.Proof.Product
public import Idealize.ShloMosaic.PureOps.Ideal.Laws

@[expose] public section

noncomputable section

namespace Cert.ReferenceIdeal.Whole

open Cert.ReferenceIdeal Cert.ReferenceIdeal.Gen Cert.Product
open Idealize.ShloMosaic Idealize.ShloMosaic.TcCoe

/-- The weight as the reference computes it: the codes in 864 blocks of 2048, each block times its scale, then laid out
    as 1536 rows of 1152. -/
abbrev weight (codes : IVec S1769472 8) (scales : FVec Ideal S864 .f32) : FVec Ideal S1536x1152 .bf16 :=
  shapeCast S1536x1152 (mulf (sitofp .bf16 (extsi 32 (shapeCast S864x2048 codes shapeCasts_S1769472_S864x2048) natLt_8_32))
    (broadcastInDim S864x2048 ![0, 1] bcast_S864x1_S864x2048_0_1
      (broadcastInDim S864x1 ![0] bcast_S864_S864x1_0 (truncf .bf16 scales bitsLt_bf16_f32)))) shapeCasts_S864x2048_S1536x1152

/-- The result as the reference computes it: activations times weight, the rows of the batches one after another. -/
abbrev result (x : FVec Ideal S8x4096x1152 .bf16) (codes : IVec S1769472 8) (scales : FVec Ideal S864 .f32) : FVec Ideal S32768x1536 .bf16 :=
  shapeCast S32768x1536 (truncf .bf16 (Host.dotGeneral dot_S8x4096x1152_S1536x1152_S8x4096x1536_2_1_01_0_n_n none x (weight codes scales) : FVec Ideal S8x4096x1536 .f32)
    bitsLt_bf16_f32) shapeCasts_S8x4096x1536_S32768x1536

/-- The reference's weight is the weight of the product: flat place `f = 1152n + k` is place `f % 2048` of block `f / 2048`. -/
theorem weight_apply (codes : IVec S1769472 8) (scales : FVec Ideal S864 .f32) (n : Fin 1536) (k : Fin 1152) :
    (weight codes scales (ix2 n k) : EReal) = weightAt codes scales n k := by
  have hn := n.isLt
  have hk := k.isLt
  refine (shapeCast_apply _ _ (ix2 n k)
    (ix2 (⟨(1152 * n.val + k.val) / 2048, by omega⟩ : Fin 864) (⟨(1152 * n.val + k.val) % 2048, by omega⟩ : Fin 2048)) ?_).trans ?_
  · rw [Shape.rowMajor_val_two, Shape.rowMajor_val_two]
    show (1152 * n.val + k.val) / 2048 * 2048 + (1152 * n.val + k.val) % 2048 = n.val * 1152 + k.val
    omega
  · unfold weightAt
    refine congrArg₂ (· * · : EReal → EReal → EReal) ?_ ?_
    · show ((((BitVec.signExtend 32 (shapeCast S864x2048 codes _ (ix2 _ _) : BitVec 8)).toInt : ℝ)) : EReal) = _
      rw [BitVec.toInt_signExtend_of_le (by decide)]
      rw [shapeCast_apply codes _ _ (codeAt n k)]
      rw [Shape.rowMajor_val_one, Shape.rowMajor_val_two]
      show 1152 * n.val + k.val = (1152 * n.val + k.val) / 2048 * 2048 + (1152 * n.val + k.val) % 2048
      omega
    · rw [broadcastInDim_apply _ _ _ _ (ix2 (⟨(1152 * n.val + k.val) / 2048, by omega⟩ : Fin 864) (0 : Fin 1)) ?_,
        broadcastInDim_apply _ _ _ _ (scaleAt n k) ?_]
      · rfl
      · intro a; match a with | ⟨0, _⟩ => rfl
      · intro a; match a with | ⟨0, _⟩ => rfl | ⟨1, _⟩ => rfl

/-- The reference's result is the product of the arguments. -/
theorem reference_eq (x : FVec Ideal S8x4096x1152 .bf16) (codes : IVec S1769472 8) (scales : FVec Ideal S864 .f32) :
    result x codes scales = product x codes scales := by
  funext i
  have h0 : (i 0).val < 32768 := (i 0).isLt
  refine (shapeCast_apply _ _ i
    (ix3 (⟨(i 0).val / 4096, by omega⟩ : Fin 8) (⟨(i 0).val % 4096, by omega⟩ : Fin 4096) (i 1)) ?_).trans ?_
  · rw [Shape.rowMajor_val_three, Shape.rowMajor_val_two]
    show ((i 0).val / 4096 * 4096 + (i 0).val % 4096) * 1536 + (i 1).val = (i 0).val * 1536 + (i 1).val
    omega
  · show Ideal.matmul dot_S8x4096x1152_S1536x1152_S8x4096x1536_2_1_01_0_n_n x (weight codes scales) (fun _ => 0)
      (ix3 (⟨(i 0).val / 4096, by omega⟩ : Fin 8) (⟨(i 0).val % 4096, by omega⟩ : Fin 4096) (i 1)) = _
    rw [Ideal.matmul_apply₁_of dot_S8x4096x1152_S1536x1152_S8x4096x1536_2_1_01_0_n_n (a := 2) rfl (K := 1152) rfl x (weight codes scales) _ _
      (fun k => actAt (i 0) k) (fun k => ix2 (i 1) k) ?_ ?_, zero_add]
    · exact Finset.sum_congr rfl fun k _ => congrArg (x (actAt (i 0) k) * · : EReal → EReal) (weight_apply codes scales (i 1) k)
    · intro k; funext a; match a with | ⟨0, _⟩ => rfl | ⟨1, _⟩ => rfl | ⟨2, _⟩ => rfl
    · intro k; funext a; match a with | ⟨0, _⟩ => rfl | ⟨1, _⟩ => rfl

end Cert.ReferenceIdeal.Whole

end
-- ==== Proof.Equation.lean ====
/- The equation: on the same arguments the kernel's array and the reference's result are one array. -/
module

public import proofs.«01_k».proof.Proof.Kernel
public import proofs.«01_k».proof.Proof.Reference

@[expose] public section

noncomputable section

namespace Cert.Equation

open Idealize.ShloMosaic Idealize.ShloMosaic.TcCoe Idealize.SL.Sem

/-- Over the extended reals the array that the kernel's runs leave is the reference's result on the same arguments. -/
theorem result_eq (m : (ℓ : Loc Cert.KernelIdeal.nD Cert.KernelIdeal.τ Cert.KernelIdeal.sig) → Buf (Elt Ideal) ℓ) (c : Dev Cert.KernelIdeal.nD) :
    Cert.KernelIdeal.Value.G3 m c
      = Cert.ReferenceIdeal.Whole.result (m (c.tc.loc Cert.KernelIdeal.main_arg0)) (m (c.tc.loc Cert.KernelIdeal.main_arg1))
          (m (c.tc.loc Cert.KernelIdeal.main_arg2)) :=
  (Cert.KernelIdeal.Block.kernel_eq m c).trans (Cert.ReferenceIdeal.Whole.reference_eq _ _ _).symm

end Cert.Equation

end
-- ==== Proof.lean ====
/- The proof of the certificate's claim: the kernel's frame, its idealization's frame and the reference's frame, that the
   idealization changes nothing, and that over the extended reals the kernel and the reference give one result. The
   result's equation is in Proof/Equation.lean; here the runs are put beside it. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference terminates with every argument unchanged and every semaphore counter at zero. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- From arguments that agree, the kernel's idealization and the reference end with the same result. -/
theorem algebraic : Cert.algebraic_KernelIdeal_ReferenceIdeal := by
  intro m g m' g' _ hagree
  refine ⟨fun c => Cert.KernelIdeal.Value.G3 m c, Cert.KernelIdeal.Value.run m g, ?_⟩
  refine (θ_run _ _ _).mono (fun r h c => ⟨(h c).1.trans ?_, (h c).2⟩) (Cert.ReferenceIdeal.Value.run m' g')
  obtain ⟨h0, h1, h2⟩ := hagree c
  rw [h0, h1, h2]
  exact (Cert.Equation.result_eq m c).symm

/-- Everything that the certificate claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
